-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x8192 : Shape := ⟨3, ![64, 1, 8192]⟩
abbrev S11264x4096 : Shape := ⟨2, ![11264, 4096]⟩
abbrev S11264x2048 : Shape := ⟨2, ![11264, 2048]⟩
abbrev S11264 : Shape := ⟨1, ![11264]⟩
abbrev S64x8192 : Shape := ⟨2, ![64, 8192]⟩
abbrev S1x11264 : Shape := ⟨2, ![1, 11264]⟩
abbrev S64x11264 : Shape := ⟨2, ![64, 11264]⟩
abbrev S256x4096 : Shape := ⟨2, ![256, 4096]⟩
abbrev S256x2048 : Shape := ⟨2, ![256, 2048]⟩
abbrev S1x256 : Shape := ⟨2, ![1, 256]⟩
abbrev S64x256 : Shape := ⟨2, ![64, 256]⟩
abbrev S4096x256 : Shape := ⟨2, ![4096, 256]⟩
abbrev S2048x256 : Shape := ⟨2, ![2048, 256]⟩
abbrev S1024x256 : Shape := ⟨2, ![1024, 256]⟩
abbrev S8192x256 : Shape := ⟨2, ![8192, 256]⟩
abbrev S512x256 : Shape := ⟨2, ![512, 256]⟩
abbrev S64x1x11264 : Shape := ⟨3, ![64, 1, 11264]⟩

abbrev nBuf : Space → Nat
  | .hbm => 8
  | .vmem => 9
  | .smem => 0
  | _ => 0

abbrev bufTy : (tb : Table) → Fin (tcTables nBuf tb) → BufTy
  | .hbm, ⟨0, _⟩ => ⟨S64x1x8192, .bf16⟩
  | .hbm, ⟨1, _⟩ => ⟨S11264x4096, .i8⟩
  | .hbm, ⟨2, _⟩ => ⟨S11264x2048, .i8⟩
  | .hbm, ⟨3, _⟩ => ⟨S11264, .f32⟩
  | .hbm, ⟨4, _⟩ => ⟨S64x8192, .bf16⟩
  | .hbm, ⟨5, _⟩ => ⟨S1x11264, .f32⟩
  | .hbm, ⟨6, _⟩ => ⟨S64x11264, .bf16⟩
  | .hbm, ⟨7, _⟩ => ⟨S64x1x11264, .bf16⟩
  | .local _ .vmem, ⟨0, _⟩ => ⟨S64x8192, .bf16⟩
  | .local _ .vmem, ⟨1, _⟩ => ⟨S256x4096, .i8⟩
  | .local _ .vmem, ⟨2, _⟩ => ⟨S256x4096, .i8⟩
  | .local _ .vmem, ⟨3, _⟩ => ⟨S256x2048, .i8⟩
  | .local _ .vmem, ⟨4, _⟩ => ⟨S256x2048, .i8⟩
  | .local _ .vmem, ⟨5, _⟩ => ⟨S1x256, .f32⟩
  | .local _ .vmem, ⟨6, _⟩ => ⟨S1x256, .f32⟩
  | .local _ .vmem, ⟨7, _⟩ => ⟨S64x256, .bf16⟩
  | .local _ .vmem, ⟨8, _⟩ => ⟨S64x256, .bf16⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x1x8192 : Shape := ⟨3, ![64, 1, 8192]⟩
abbrev S11264x4096 : Shape := ⟨2, ![11264, 4096]⟩
abbrev S11264x2048 : Shape := ⟨2, ![11264, 2048]⟩
abbrev S11264 : Shape := ⟨1, ![11264]⟩
abbrev S11264x2048x2 : Shape := ⟨3, ![11264, 2048, 2]⟩
abbrev S1x4096 : Shape := ⟨2, ![1, 4096]⟩
abbrev S_ : Shape := ⟨0, ![]⟩
abbrev S64x1x4096 : Shape := ⟨3, ![64, 1, 4096]⟩
abbrev S64x1x11264 : Shape := ⟨3, ![64, 1, 11264]⟩
abbrev S1x1x11264 : Shape := ⟨3, ![1, 1, 11264]⟩

abbrev nBuf : Space → Nat
  | .hbm => 105
  | .vmem => 0
  | .smem => 0
  | _ => 0

abbrev bufTy : (tb : Table) → Fin (tcTables nBuf tb) → BufTy
  | .hbm, ⟨0, _⟩ => ⟨S64x1x8192, .bf16⟩
  | .hbm, ⟨1, _⟩ => ⟨S11264x4096, .i8⟩
  | .hbm, ⟨2, _⟩ => ⟨S11264x2048, .i8⟩
  | .hbm, ⟨3, _⟩ => ⟨S11264, .f32⟩
  | .hbm, ⟨4, _⟩ => ⟨S11264x4096, .i32⟩
  | .hbm, ⟨5, _⟩ => ⟨S11264x2048x2, .i8⟩
  | .hbm, ⟨6, _⟩ => ⟨S11264x4096, .i8⟩
  | .hbm, ⟨7, _⟩ => ⟨S11264x4096, .i32⟩
  | .hbm, ⟨8, _⟩ => ⟨S1x4096, .i32⟩
  | .hbm, ⟨9, _⟩ => ⟨S_, .i32⟩
  | .hbm, ⟨10, _⟩ => ⟨S1x4096, .i32⟩
  | .hbm, ⟨11, _⟩ => ⟨S1x4096, .i32⟩
  | .hbm, ⟨12, _⟩ => ⟨S_, .i32⟩
  | .hbm, ⟨13, _⟩ => ⟨S1x4096, .i32⟩
  | .hbm, ⟨14, _⟩ => ⟨S1x4096, .i32⟩
  | .hbm, ⟨15, _⟩ => ⟨S_, .i32⟩
  | .hbm, ⟨16, _⟩ => ⟨S11264x4096, .i32⟩
  | .hbm, ⟨17, _⟩ => ⟨S11264x4096, .i32⟩
  | .hbm, ⟨18, _⟩ => ⟨S11264x4096, .i32⟩
  | .hbm, ⟨19, _⟩ => ⟨S11264x4096, .i32⟩
  | .hbm, ⟨20, _⟩ => ⟨S_, .i32⟩
  | .hbm, ⟨21, _⟩ => ⟨S11264x4096, .i32⟩
  | .hbm, ⟨22, _⟩ => ⟨S11264x4096, .i32⟩
  | .hbm, ⟨23, _⟩ => ⟨S_, .i32⟩
  | .hbm, ⟨24, _⟩ => ⟨S11264x4096, .i32⟩
  | .hbm, ⟨25, _⟩ => ⟨S11264x4096, .i32⟩
  | .hbm, ⟨26, _⟩ => ⟨S_, .i32⟩
  | .hbm, ⟨27, _⟩ => ⟨S11264x4096, .i32⟩
  | .hbm, ⟨28, _⟩ => ⟨S11264x4096, .i32⟩
  | .hbm, ⟨29, _⟩ => ⟨S_, .i32⟩
  | .hbm, ⟨30, _⟩ => ⟨S11264x4096, .i32⟩
  | .hbm, ⟨31, _⟩ => ⟨S11264x4096, .i32⟩
  | .hbm, ⟨32, _⟩ => ⟨S11264x4096, .i32⟩
  | .hbm, ⟨33, _⟩ => ⟨S_, .i32⟩
  | .hbm, ⟨34, _⟩ => ⟨S11264x4096, .i32⟩
  | .hbm, ⟨35, _⟩ => ⟨S11264x4096, .i32⟩
  | .hbm, ⟨36, _⟩ => ⟨S_, .i32⟩
  | .hbm, ⟨37, _⟩ => ⟨S11264x4096, .i32⟩
  | .hbm, ⟨38, _⟩ => ⟨S11264x4096, .i32⟩
  | .hbm, ⟨39, _⟩ => ⟨S11264x4096, .i16⟩
  | .hbm, ⟨40, _⟩ => ⟨S11264x4096, .bf16⟩
  | .hbm, ⟨41, _⟩ => ⟨S11264x4096, .bf16⟩
  | .hbm, ⟨42, _⟩ => ⟨S_, .bf16⟩
  | .hbm, ⟨43, _⟩ => ⟨S11264x4096, .bf16⟩
  | .hbm, ⟨44, _⟩ => ⟨S11264x4096, .bf16⟩
  | .hbm, ⟨45, _⟩ => ⟨S_, .i32⟩
  | .hbm, ⟨46, _⟩ => ⟨S11264x4096, .i32⟩
  | .hbm, ⟨47, _⟩ => ⟨S11264x4096, .i1⟩
  | .hbm, ⟨48, _⟩ => ⟨S11264x4096, .bf16⟩
  | .hbm, ⟨49, _⟩ => ⟨S_, .i32⟩
  | .hbm, ⟨50, _⟩ => ⟨S11264x4096, .i32⟩
  | .hbm, ⟨51, _⟩ => ⟨S11264x4096, .i1⟩
  | .hbm, ⟨52, _⟩ => ⟨S11264x4096, .bf16⟩
  | .hbm, ⟨53, _⟩ => ⟨S11264x4096, .bf16⟩
  | .hbm, ⟨54, _⟩ => ⟨S_, .i32⟩
  | .hbm, ⟨55, _⟩ => ⟨S11264x4096, .i32⟩
  | .hbm, ⟨56, _⟩ => ⟨S11264x4096, .i32⟩
  | .hbm, ⟨57, _⟩ => ⟨S_, .i32⟩
  | .hbm, ⟨58, _⟩ => ⟨S1x4096, .i32⟩
  | .hbm, ⟨59, _⟩ => ⟨S1x4096, .i32⟩
  | .hbm, ⟨60, _⟩ => ⟨S11264x4096, .i32⟩
  | .hbm, ⟨61, _⟩ => ⟨S11264x4096, .i32⟩
  | .hbm, ⟨62, _⟩ => ⟨S_, .i32⟩
  | .hbm, ⟨63, _⟩ => ⟨S11264x4096, .i32⟩
  | .hbm, ⟨64, _⟩ => ⟨S11264x4096, .i32⟩
  | .hbm, ⟨65, _⟩ => ⟨S_, .i32⟩
  | .hbm, ⟨66, _⟩ => ⟨S11264x4096, .i32⟩
  | .hbm, ⟨67, _⟩ => ⟨S11264x4096, .i32⟩
  | .hbm, ⟨68, _⟩ => ⟨S_, .i32⟩
  | .hbm, ⟨69, _⟩ => ⟨S11264x4096, .i32⟩
  | .hbm, ⟨70, _⟩ => ⟨S11264x4096, .i32⟩
  | .hbm, ⟨71, _⟩ => ⟨S_, .i32⟩
  | .hbm, ⟨72, _⟩ => ⟨S11264x4096, .i32⟩
  | .hbm, ⟨73, _⟩ => ⟨S11264x4096, .i32⟩
  | .hbm, ⟨74, _⟩ => ⟨S11264x4096, .i32⟩
  | .hbm, ⟨75, _⟩ => ⟨S_, .i32⟩
  | .hbm, ⟨76, _⟩ => ⟨S11264x4096, .i32⟩
  | .hbm, ⟨77, _⟩ => ⟨S11264x4096, .i32⟩
  | .hbm, ⟨78, _⟩ => ⟨S_, .i32⟩
  | .hbm, ⟨79, _⟩ => ⟨S11264x4096, .i32⟩
  | .hbm, ⟨80, _⟩ => ⟨S11264x4096, .i32⟩
  | .hbm, ⟨81, _⟩ => ⟨S11264x4096, .i16⟩
  | .hbm, ⟨82, _⟩ => ⟨S11264x4096, .bf16⟩
  | .hbm, ⟨83, _⟩ => ⟨S11264x4096, .bf16⟩
  | .hbm, ⟨84, _⟩ => ⟨S_, .bf16⟩
  | .hbm, ⟨85, _⟩ => ⟨S11264x4096, .bf16⟩
  | .hbm, ⟨86, _⟩ => ⟨S11264x4096, .bf16⟩
  | .hbm, ⟨87, _⟩ => ⟨S_, .i32⟩
  | .hbm, ⟨88, _⟩ => ⟨S11264x4096, .i32⟩
  | .hbm, ⟨89, _⟩ => ⟨S11264x4096, .i1⟩
  | .hbm, ⟨90, _⟩ => ⟨S11264x4096, .bf16⟩
  | .hbm, ⟨91, _⟩ => ⟨S_, .i32⟩
  | .hbm, ⟨92, _⟩ => ⟨S11264x4096, .i32⟩
  | .hbm, ⟨93, _⟩ => ⟨S11264x4096, .i1⟩
  | .hbm, ⟨94, _⟩ => ⟨S11264x4096, .bf16⟩
  | .hbm, ⟨95, _⟩ => ⟨S11264x4096, .bf16⟩
  | .hbm, ⟨96, _⟩ => ⟨S64x1x4096, .bf16⟩
  | .hbm, ⟨97, _⟩ => ⟨S64x1x11264, .f32⟩
  | .hbm, ⟨98, _⟩ => ⟨S64x1x4096, .bf16⟩
  | .hbm, ⟨99, _⟩ => ⟨S64x1x11264, .f32⟩
  | .hbm, ⟨100, _⟩ => ⟨S64x1x11264, .f32⟩
  | .hbm, ⟨101, _⟩ => ⟨S1x1x11264, .f32⟩
  | .hbm, ⟨102, _⟩ => ⟨S64x1x11264, .f32⟩
  | .hbm, ⟨103, _⟩ => ⟨S64x1x11264, .f32⟩
  | .hbm, ⟨104, _⟩ => ⟨S64x1x11264, .bf16⟩
  | _, _ => ⟨S64x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_12 : Ref sig .tc := ⟨.hbm, 62, rfl⟩
abbrev main_v44 : Ref sig .tc := ⟨.hbm, 63, rfl⟩
abbrev main_v45 : Ref sig .tc := ⟨.hbm, 64, rfl⟩
abbrev main_c_13 : Ref sig .tc := ⟨.hbm, 65, rfl⟩
abbrev main_v46 : Ref sig .tc := ⟨.hbm, 66, rfl⟩
abbrev main_v47 : Ref sig .tc := ⟨.hbm, 67, rfl⟩
abbrev main_c_14 : Ref sig .tc := ⟨.hbm, 68, rfl⟩
abbrev main_v48 : Ref sig .tc := ⟨.hbm, 69, rfl⟩
abbrev main_v49 : Ref sig .tc := ⟨.hbm, 70, rfl⟩
abbrev main_c_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_16 : Ref sig .tc := ⟨.hbm, 75, rfl⟩
abbrev main_v53 : Ref sig .tc := ⟨.hbm, 76, rfl⟩
abbrev main_v54 : Ref sig .tc := ⟨.hbm, 77, rfl⟩
abbrev main_c_17 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_c_19 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_20 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Proof.Words.lean ====
/- The bit patterns of the weight decode (untrusted): how 32-bit words are spread into bytes by masks and shifts, and
   how rows of bytes, halves and words read one another's bits. Stated for words and arrays of any size; the kernel's
   own arrays enter in Proof/Codes.lean. -/
module

public import Idealize.ShloMosaic.Lib.BitcastPair
public import Idealize.ShloMosaic.Lib.ValueIdxCore
public import Idealize.ShloMosaic.PureOps.Float

@[expose] public section

namespace Cert.Proof.Words

open Idealize.ShloMosaic Idealize.ShloMosaic.ValueIdx

/-! ## Spreading a half word -/

/-- The two bytes of a half word moved two bytes apart. -/
def apart8 (x : BitVec 32) : BitVec 32 := IntOp.andi (IntOp.ori x (IntOp.shli .vector x 8#32)) 16711935#32
/-- The four nibbles of a half word, each in a byte of its own; `y` has its two bytes already apart. -/
def apart4 (y : BitVec 32) : BitVec 32 := IntOp.andi (IntOp.ori y (IntOp.shli .vector y 4#32)) 252645135#32
/-- The eight two-bit fields of a half word, each in a nibble of its own; `y` has its four nibbles already apart. -/
def apart2 (y : BitVec 32) : BitVec 32 := IntOp.andi (IntOp.ori y (IntOp.shli .vector y 2#32)) 858993459#32
/-- Bit 3 of each byte copied into that byte's upper four bits. -/
def signed4 (y : BitVec 32) : BitVec 32 :=
  IntOp.ori (IntOp.ori (IntOp.ori (IntOp.ori y (IntOp.shli .vector (IntOp.andi y 134744072#32) 1#32))
    (IntOp.shli .vector (IntOp.andi y 134744072#32) 2#32)) (IntOp.shli .vector (IntOp.andi y 134744072#32) 3#32))
    (IntOp.shli .vector (IntOp.andi y 134744072#32) 4#32)
/-- Four weight codes: the sign and the three bits below it from each byte of `h`, the low two bits from `l`. -/
def codeWord (h l : BitVec 32) : BitVec 32 := IntOp.ori (IntOp.andi (IntOp.shli .vector h 2#32) 2627509404#32) l

theorem shli_lit (x : BitVec 32) (n : Nat) (h : n < 32) : IntOp.shli .vector x (BitVec.ofNat 32 n) = x <<< n := by
  unfold IntOp.shli
  have e : (BitVec.ofNat 32 n).toNat = n := by simp; omega
  rw [if_pos (by rw [e]; exact h), BitVec.shiftLeft_eq', e]

theorem apart8_getLsbD (v : BitVec 16) (q : Nat) (hq : q < 32) :
    (apart8 (v.setWidth 32)).getLsbD q = (decide (q % 16 < 8) && v.getLsbD (8 * (q / 16) + q % 16)) := by
  unfold apart8 IntOp.andi IntOp.ori
  rw [shli_lit _ 8 (by decide)]
  interval_cases q <;> simp [BitVec.getLsbD_setWidth] <;> decide

theorem apart4_getLsbD (v : BitVec 16) (q : Nat) (hq : q < 32) :
    (apart4 (apart8 (v.setWidth 32))).getLsbD q = (decide (q % 8 < 4) && v.getLsbD (4 * (q / 8) + q % 8)) := by
  generalize hy : apart8 (v.setWidth 32) = y
  have h : ∀ (q : Nat) (hq : q < 32), y[q] = (decide (q % 16 < 8) && v.getLsbD (8 * (q / 16) + q % 16)) := fun q hq => by
    rw [← BitVec.getLsbD_eq_getElem, ← hy, apart8_getLsbD v q hq]
  unfold apart4 IntOp.andi IntOp.ori
  rw [shli_lit _ 4 (by decide)]
  interval_cases q <;> simp [h]

theorem apart2_getLsbD (v : BitVec 16) (q : Nat) (hq : q < 32) :
    (apart2 (apart4 (apart8 (v.setWidth 32)))).getLsbD q = (decide (q % 4 < 2) && v.getLsbD (2 * (q / 4) + q % 4)) := by
  generalize hy : apart4 (apart8 (v.setWidth 32)) = y
  have h : ∀ (q : Nat) (hq : q < 32), y[q] = (decide (q % 8 < 4) && v.getLsbD (4 * (q / 8) + q % 8)) := fun q hq => by
    rw [← BitVec.getLsbD_eq_getElem, ← hy, apart4_getLsbD v q hq]
  unfold apart2 IntOp.andi IntOp.ori
  rw [shli_lit _ 2 (by decide)]
  interval_cases q <;> simp [h]

theorem signed4_getLsbD (v : BitVec 16) (q : Nat) (hq : q < 32) :
    (signed4 (apart4 (apart8 (v.setWidth 32)))).getLsbD q = v.getLsbD (4 * (q / 8) + min (q % 8) 3) := by
  generalize hy : apart4 (apart8 (v.setWidth 32)) = y
  have h : ∀ (q : Nat) (hq : q < 32), y[q] = (decide (q % 8 < 4) && v.getLsbD (4 * (q / 8) + q % 8)) := fun q hq => by
    rw [← BitVec.getLsbD_eq_getElem, ← hy, apart4_getLsbD v q hq]
  unfold signed4 IntOp.andi IntOp.ori
  rw [shli_lit _ 1 (by decide), shli_lit _ 2 (by decide), shli_lit _ 3 (by decide), shli_lit _ 4 (by decide)]
  interval_cases q <;> simp [h]

/-- Bit `q` of four weight codes: within a byte, the low two bits are `l`'s, the next three are `h`'s low three and the
    top one is `h`'s bit 5 (a copy of its bit 3), the rest are `l`'s. -/
theorem codeWord_getLsbD (h l : BitVec 32) (q : Nat) (hq : q < 32) :
    (codeWord h l).getLsbD q = ((decide (2 ≤ q % 8 ∧ q % 8 < 5 ∨ q % 8 = 7) && h.getLsbD (q - 2)) || l.getLsbD q) := by
  unfold codeWord IntOp.andi IntOp.ori
  rw [shli_lit _ 2 (by decide)]
  interval_cases q <;> simp <;> decide

/-! ## Rows of bytes, halves and words -/

/-- Bit `N` of column `l`, the column's elements laid end to end, each `v` bits wide. -/
def colBit {v R n : Nat} (x : (⟨2, ![R, n]⟩ : Shape).Idx → BitVec v) (N : Nat) (l : Fin n) : Bool :=
  if h : N / v < R then (x (ix2 ⟨N / v, h⟩ l)).getLsbD (N % v) else false

theorem colBit_ix2 {v R n : Nat} (x : (⟨2, ![R, n]⟩ : Shape).Idx → BitVec v) (p : Fin R) (l : Fin n) (q : Nat) (hq : q < v) :
    colBit x (p.val * v + q) l = (x (ix2 p l)).getLsbD q := by
  have e1 : (p.val * v + q) / v = p.val := by
    rw [Nat.mul_comm, Nat.mul_add_div (by omega), Nat.div_eq_of_lt hq, Nat.add_zero]
  have e2 : (p.val * v + q) % v = q := by
    rw [Nat.mul_comm, Nat.mul_add_mod, Nat.mod_eq_of_lt hq]
  unfold colBit
  rw [dif_pos (by rw [e1]; exact p.isLt), e2]
  congr 2
  exact congrArg (fun a => ix2 a l) (Fin.ext e1 : (⟨(p.val * v + q) / v, _⟩ : Fin R) = p)

/-- Reinterpreting a column's bits at another width moves none of them. -/
theorem bitcast_ix2 {v w R r n : Nat} (x : (⟨2, ![R, n]⟩ : Shape).Idx → BitVec v)
    (h : (⟨2, ![R, n]⟩ : Shape).Bitcasts v ⟨2, ![r, n]⟩ w) (hv : 0 < v) (a : Fin r) (l : Fin n) (q : Nat) (hq : q < w) :
    (bitcast ⟨2, ![r, n]⟩ w x h (ix2 a l)).getLsbD q = colBit x (a.val * w + q) l := by
  rw [bitcast_getLsbD x h _ q hq hv]
  have hb : (a.val * w + q) / v < R :=
    (Nat.div_lt_iff_lt_mul hv).2 (h.pos_lt (ix2 a l) q hq ⟨0, Nat.zero_lt_two⟩ rfl)
  unfold colBit
  rw [dif_pos hb]
  congr 2
  funext c
  match c with
  | ⟨0, _⟩ => exact Fin.ext ((h.srcIdx_row _ _ _ ⟨0, Nat.zero_lt_two⟩ rfl))
  | ⟨1, _⟩ => exact Fin.ext (h.srcIdx_other _ _ _ ⟨1, Nat.one_lt_two⟩ (by show ¬ 1 + 2 = 2; omega))

theorem colBit_bitcast {v w R r n : Nat} (x : (⟨2, ![R, n]⟩ : Shape).Idx → BitVec v)
    (h : (⟨2, ![R, n]⟩ : Shape).Bitcasts v ⟨2, ![r, n]⟩ w) (hv : 0 < v) (hw : 0 < w) (N : Nat) (hN : N / w < r) (l : Fin n) :
    colBit (bitcast ⟨2, ![r, n]⟩ w x h) N l = colBit x N l := by
  have e := bitcast_ix2 x h hv ⟨N / w, hN⟩ l (N % w) (Nat.mod_lt _ hw)
  rw [show N / w * w + N % w = N from Nat.div_add_mod' N w] at e
  rw [← e]
  unfold colBit
  rw [dif_pos hN]

end Cert.Proof.Words
-- ==== Proof.Weight.lean ====
/- One weight (untrusted): the 8-bit code that four high bits and two low bits make, and that the number it stands for,
   times 4096, is the reference's number for the same six bits. Sixty-four cases, each by arithmetic. -/
module

public import Idealize.ShloMosaic.PureOps.Ideal.Laws
public import Idealize.ShloMosaic.PureOps.Float

@[expose] public section

noncomputable section

namespace Cert.Proof.Weight

open Idealize.ShloMosaic

/-- The code of a weight: its sign, two zero bits, its three exponent bits, its two fraction bits. -/
def weightByte (hi : BitVec 4) (lo : BitVec 2) : BitVec 8 :=
  hi.extractLsb' 3 1 ++ (0#2 ++ (hi.extractLsb' 0 3 ++ lo))

/-- A weight's magnitude as the reference computes it, from its high bits `hi` and its low bits `lo`. -/
def refMag (hi lo : BitVec 32) : Ideal .bf16 :=
  Scalar.select (IntOp.cmpi .eq (IntOp.andi hi 7#32) 0#32)
    (FloatOps.mulf (FloatOps.sitofp .bf16 lo) (FloatOps.ofBits .bf16 0x3D80#16))
    (FloatOps.ofBits .bf16 ((IntOp.addi (IntOp.shli .host (IntOp.ori (IntOp.shli .host (IntOp.andi hi 7#32) 2#32) lo) 5#32) 15872#32).setWidth 16))

/-- A weight as the reference computes it. -/
def refWeight (hi lo : BitVec 32) : Ideal .bf16 :=
  Scalar.select (IntOp.cmpi .eq (IntOp.shrsi .host hi 3#32) 1#32) (FloatOps.hostNegf (refMag hi lo)) (refMag hi lo)

/-- The number a weight's code stands for. -/
def byteVal (hi : BitVec 4) (lo : BitVec 2) : EReal := Ideal.ofBits .fp8e5m2 (weightByte hi lo)

theorem byteVal_mul (hi : BitVec 4) (lo : BitVec 2) :
    byteVal hi lo * ((4096 : ℝ) : EReal) = refWeight (hi.setWidth 32) (lo.setWidth 32) := by
  obtain ⟨⟨a, ha⟩⟩ := hi
  obtain ⟨⟨b, hb⟩⟩ := lo
  have e1 : ∀ x : BitVec 16, (FloatOps.ofBits .bf16 x : Ideal .bf16) = Ideal.ofBits .bf16 x := fun _ => rfl
  have e2 : ∀ x : BitVec 32, (FloatOps.sitofp .bf16 x : Ideal .bf16) = ((x.toInt : ℝ) : EReal) := fun _ => rfl
  have e3 : ∀ x y : Ideal .bf16, (FloatOps.mulf x y : Ideal .bf16) = (x * y : EReal) := fun _ _ => rfl
  have e4 : ∀ x : Ideal .bf16, (FloatOps.hostNegf x : Ideal .bf16) = (-x : EReal) := fun _ => rfl
  interval_cases a <;> interval_cases b <;>
    simp [byteVal, weightByte, refWeight, refMag, e1, e2, e3, e4, Ideal.ofBits, Ideal.ieee, Scalar.select, IntOp.cmpi,
      IntOp.andi, IntOp.ori, IntOp.addi, IntOp.shli, IntOp.shrsi, -EReal.coe_mul, -EReal.coe_neg] <;>
    simp only [← EReal.coe_mul, ← EReal.coe_neg, EReal.coe_eq_coe_iff] <;> norm_num

end Cert.Proof.Weight
-- ==== Proof.Codes.lean ====
/- The kernel's weight codes (untrusted). One grid point holds 256 rows of the two weight arrays; the body turns them into
   8192 × 256 bytes, one code for each input feature and each of its 256 output features. Here each code is read off the
   two arrays: the four high bits of feature `p` are half `p % 2` of byte `p / 2`, the low two are field `p % 4` of byte
   `p / 4` (`codes_apply`), and the body's payload is restated over the codes (`pay_eq`). -/
module

public import proofs.«01_k».proof.Proof.Gen.KernelIdeal.Skeleton
public import proofs.«01_k».proof.Proof.Words
public import proofs.«01_k».proof.Proof.Weight
public import Idealize.ShloMosaic.Lib.ValueLayout

@[expose] public section

noncomputable section

namespace Cert.KernelIdeal.Codes

open Cert.KernelIdeal Cert.KernelIdeal.Gen Idealize.ShloMosaic Idealize.ShloMosaic.ValueIdx
open Cert.Proof.Words Cert.Proof.Weight

variable {F : FTy → Type} [FloatOps F]

/-- The high-bit bytes, one column for each output feature. -/
def hCols (v0 : IVec S256x4096 8) : IVec S4096x256 8 := transpose S4096x256 [1, 0] v0 transposes_S256x4096_p1_0_S4096x256
/-- The low-bit bytes, one column for each output feature. -/
def lCols (v2 : IVec S256x2048 8) : IVec S2048x256 8 := transpose S2048x256 [1, 0] v2 transposes_S256x2048_p1_0_S2048x256

/-- Words of four sign-extended nibbles. -/
def hWords (v0 : IVec S256x4096 8) : IVec S2048x256 32 := fun i =>
  signed4 (apart4 (apart8 ((bitcast S2048x256 16 (bitcast S1024x256 32 (hCols v0) bitcasts_S4096x256_w8_S1024x256_w32)
    bitcasts_S1024x256_w32_S2048x256_w16 i).setWidth 32)))
/-- Words of eight two-bit fields. -/
def lPairs (v2 : IVec S256x2048 8) : IVec S1024x256 32 := fun i =>
  apart2 (apart4 (apart8 ((bitcast S1024x256 16 (bitcast S512x256 32 (lCols v2) bitcasts_S2048x256_w8_S512x256_w32)
    bitcasts_S512x256_w32_S1024x256_w16 i).setWidth 32)))
/-- Words of four two-bit fields. -/
def lWords (v2 : IVec S256x2048 8) : IVec S2048x256 32 := fun i =>
  apart4 (apart8 ((bitcast S2048x256 16 (lPairs v2) bitcasts_S1024x256_w32_S2048x256_w16 i).setWidth 32))
/-- Words of four codes. -/
def cWords (v0 : IVec S256x4096 8) (v2 : IVec S256x2048 8) : IVec S2048x256 32 := fun i =>
  codeWord (bitcast S2048x256 32 (bitcast S8192x256 8 (hWords v0) bitcasts_S2048x256_w32_S8192x256_w8) bitcasts_S8192x256_w8_S2048x256_w32 i)
    (bitcast S2048x256 32 (bitcast S8192x256 8 (lWords v2) bitcasts_S2048x256_w32_S8192x256_w8) bitcasts_S8192x256_w8_S2048x256_w32 i)
/-- The codes. -/
def codes (v0 : IVec S256x4096 8) (v2 : IVec S256x2048 8) : IVec S8192x256 8 :=
  bitcast S8192x256 8 (cWords v0 v2) bitcasts_S2048x256_w32_S8192x256_w8

/-- The body's payload over the codes. -/
theorem pay_eq (v0 : Vec F S256x4096 .i8) (v2 : Vec F S256x2048 .i8) (x : Vec F S64x8192 .bf16) (s : Vec F S1x256 .f32) :
    k0_pay1 (F := F) (k0_pay2 (F := F) v0) (k0_pay3 (F := F) v2) x s
      = truncf .bf16 (mulf (mulf (matmul dot_S64x8192_S8192x256_S64x256_1_0_0_1_n_n none
          (shapeCast S64x8192 x shapeCasts_S64x8192_S64x8192 : FVec F S64x8192 .bf16)
          (extf .bf16 (bitcastToFloat .fp8e5m2 (codes v0 v2) : FVec F S8192x256 .fp8e5m2) bitsLt_fp8e5m2_bf16)
          (constant S64x256 .f32 0x00000000#32)) (broadcast S64x256 (Scalar.ofBits .f32 0x45800000#32)))
          (broadcastTo S64x256 (shapeCast S1x256 s shapeCasts_S1x256_S1x256) broadcasts_S1x256_S64x256)) bitsLt_bf16_f32 := rfl

/-! ## The bits of each -/

theorem hCols_apply (v0 : IVec S256x4096 8) (r : Fin 4096) (n : Fin 256) : hCols v0 (ix2 r n) = v0 (ix2 n r) :=
  transpose_ix2_apply v0 _ r n
theorem lCols_apply (v2 : IVec S256x2048 8) (r : Fin 2048) (n : Fin 256) : lCols v2 (ix2 r n) = v2 (ix2 n r) :=
  transpose_ix2_apply v2 _ r n

theorem hHalf (v0 : IVec S256x4096 8) (w : Fin 2048) (n : Fin 256) (q : Nat) (hq : q < 16) :
    (bitcast S2048x256 16 (bitcast S1024x256 32 (hCols v0) bitcasts_S4096x256_w8_S1024x256_w32)
      bitcasts_S1024x256_w32_S2048x256_w16 (ix2 w n)).getLsbD q = colBit (hCols v0) (w.val * 16 + q) n := by
  have hw := w.isLt
  rw [bitcast_ix2 _ _ (by decide) w n q hq]
  exact colBit_bitcast _ _ (by decide) (by decide) _ (by omega) n

theorem lHalf (v2 : IVec S256x2048 8) (w : Fin 1024) (n : Fin 256) (q : Nat) (hq : q < 16) :
    (bitcast S1024x256 16 (bitcast S512x256 32 (lCols v2) bitcasts_S2048x256_w8_S512x256_w32)
      bitcasts_S512x256_w32_S1024x256_w16 (ix2 w n)).getLsbD q = colBit (lCols v2) (w.val * 16 + q) n := by
  have hw := w.isLt
  rw [bitcast_ix2 _ _ (by decide) w n q hq]
  exact colBit_bitcast _ _ (by decide) (by decide) _ (by omega) n

theorem hWords_bit (v0 : IVec S256x4096 8) (w : Fin 2048) (n : Fin 256) (q : Nat) (hq : q < 32) :
    (hWords v0 (ix2 w n)).getLsbD q = colBit (hCols v0) (w.val * 16 + (4 * (q / 8) + min (q % 8) 3)) n := by
  unfold hWords
  rw [signed4_getLsbD _ q hq, hHalf v0 w n _ (by omega)]

theorem lPairs_bit (v2 : IVec S256x2048 8) (w : Fin 1024) (n : Fin 256) (q : Nat) (hq : q < 32) :
    (lPairs v2 (ix2 w n)).getLsbD q = (decide (q % 4 < 2) && colBit (lCols v2) (w.val * 16 + (2 * (q / 4) + q % 4)) n) := by
  unfold lPairs
  rw [apart2_getLsbD _ q hq]
  by_cases h : q % 4 < 2
  · rw [lHalf v2 w n _ (by omega)]
  · simp [h]

theorem lWords_bit (v2 : IVec S256x2048 8) (w : Fin 2048) (n : Fin 256) (q : Nat) (hq : q < 32) :
    (lWords v2 (ix2 w n)).getLsbD q = (decide (q % 8 < 2) && colBit (lCols v2) (w.val * 8 + (2 * (q / 8) + q % 8)) n) := by
  have hw := w.isLt
  unfold lWords
  rw [apart4_getLsbD _ q hq]
  by_cases h : q % 8 < 4
  · rw [bitcast_ix2 _ _ (by decide) w n _ (by omega)]
    unfold colBit
    rw [dif_pos (show (w.val * 16 + (4 * (q / 8) + q % 8)) / 32 < 1024 by omega), lPairs_bit v2 _ n _ (Nat.mod_lt _ (by decide))]
    have e1 : (w.val * 16 + (4 * (q / 8) + q % 8)) % 32 % 4 = q % 8 := by omega
    have e2 : (w.val * 16 + (4 * (q / 8) + q % 8)) / 32 * 16 + (2 * ((w.val * 16 + (4 * (q / 8) + q % 8)) % 32 / 4) + q % 8)
      = w.val * 8 + (2 * (q / 8) + q % 8) := by omega
    simp only [e1, h, decide_true, Bool.true_and]
    rw [e2]
    rfl
  · have h2 : ¬ q % 8 < 2 := by omega
    simp [h, h2]

/-- Words of bytes read as words again are the words. -/
theorem back (x : IVec S2048x256 32) (w : Fin 2048) (n : Fin 256) (q : Nat) (hq : q < 32) :
    (bitcast S2048x256 32 (bitcast S8192x256 8 x bitcasts_S2048x256_w32_S8192x256_w8) bitcasts_S8192x256_w8_S2048x256_w32 (ix2 w n)).getLsbD q
      = (x (ix2 w n)).getLsbD q := by
  have hw := w.isLt
  rw [bitcast_ix2 _ _ (by decide) w n q hq, colBit_bitcast x _ (by decide) (by decide) _ (by omega) n, colBit_ix2 x w n q hq]

/-- Bit `q` of code `p`: the two low bits, then three high bits, then two zeros, then the sign. -/
theorem codes_bit (v0 : IVec S256x4096 8) (v2 : IVec S256x2048 8) (p : Fin 8192) (n : Fin 256) (q : Nat) (hq : q < 8) :
    (codes v0 v2 (ix2 p n)).getLsbD q
      = ((decide (2 ≤ q ∧ q < 5 ∨ q = 7) && colBit (hCols v0) (p.val * 4 + min (q - 2) 3) n)
        || (decide (q < 2) && colBit (lCols v2) (p.val * 2 + q) n)) := by
  have hp := p.isLt
  unfold codes
  rw [bitcast_ix2 _ _ (by decide) p n q hq]
  have hw : (p.val * 8 + q) / 32 < 2048 := by omega
  have hr : (p.val * 8 + q) % 32 < 32 := Nat.mod_lt _ (by decide)
  have e8 : (p.val * 8 + q) % 32 % 8 = q := by omega
  rw [show colBit (cWords v0 v2) (p.val * 8 + q) n = (cWords v0 v2 (ix2 ⟨(p.val * 8 + q) / 32, hw⟩ n)).getLsbD ((p.val * 8 + q) % 32) from dif_pos hw]
  unfold cWords
  rw [codeWord_getLsbD _ _ _ hr, back _ _ n _ hr, lWords_bit v2 _ n _ hr, e8]
  have el : (p.val * 8 + q) / 32 * 8 + (2 * ((p.val * 8 + q) % 32 / 8) + q) = p.val * 2 + q := by omega
  simp only [el]
  by_cases h : 2 ≤ q ∧ q < 5 ∨ q = 7
  · rw [back _ _ n _ (by omega), hWords_bit v0 _ n _ (by omega)]
    have eh : (p.val * 8 + q) / 32 * 16 + (4 * (((p.val * 8 + q) % 32 - 2) / 8) + min (((p.val * 8 + q) % 32 - 2) % 8) 3)
      = p.val * 4 + min (q - 2) 3 := by omega
    simp only [eh]
  · simp only [h, decide_false, Bool.false_and]

/-- The four high bits of feature `p`. -/
def hBits (b : BitVec 8) (p : Nat) : BitVec 4 := b.extractLsb' (4 * (p % 2)) 4
/-- The two low bits of feature `p`. -/
def lBits (b : BitVec 8) (p : Nat) : BitVec 2 := b.extractLsb' (2 * (p % 4)) 2

theorem hBits_bit (v0 : IVec S256x4096 8) (p : Fin 8192) (n : Fin 256) (q : Nat) (hq : q < 4) :
    colBit (hCols v0) (p.val * 4 + q) n = (hBits (v0 (ix2 n ⟨p.val / 2, by omega⟩)) p.val).getLsbD q := by
  have hp := p.isLt
  unfold hBits
  rw [BitVec.getLsbD_extractLsb', ← hCols_apply v0 ⟨p.val / 2, by omega⟩ n, show p.val * 4 + q = p.val / 2 * 8 + (4 * (p.val % 2) + q) by omega]
  rw [colBit_ix2 (hCols v0) (⟨p.val / 2, by omega⟩ : Fin 4096) n (4 * (p.val % 2) + q) (by omega)]
  simp [hq]

theorem lBits_bit (v2 : IVec S256x2048 8) (p : Fin 8192) (n : Fin 256) (q : Nat) (hq : q < 2) :
    colBit (lCols v2) (p.val * 2 + q) n = (lBits (v2 (ix2 n ⟨p.val / 4, by omega⟩)) p.val).getLsbD q := by
  have hp := p.isLt
  unfold lBits
  rw [BitVec.getLsbD_extractLsb', ← lCols_apply v2 ⟨p.val / 4, by omega⟩ n, show p.val * 2 + q = p.val / 4 * 8 + (2 * (p.val % 4) + q) by omega]
  rw [colBit_ix2 (lCols v2) (⟨p.val / 4, by omega⟩ : Fin 2048) n (2 * (p.val % 4) + q) (by omega)]
  simp [hq]

theorem weightByte_bit (hi : BitVec 4) (lo : BitVec 2) (q : Nat) (hq : q < 8) :
    (weightByte hi lo).getLsbD q
      = ((decide (2 ≤ q ∧ q < 5 ∨ q = 7) && hi.getLsbD (min (q - 2) 3)) || (decide (q < 2) && lo.getLsbD q)) := by
  interval_cases q <;> revert hi lo <;> decide +kernel

/-- Code `p` of output feature `n`. -/
theorem codes_apply (v0 : IVec S256x4096 8) (v2 : IVec S256x2048 8) (p : Fin 8192) (n : Fin 256) :
    codes v0 v2 (ix2 p n) = weightByte (hBits (v0 (ix2 n ⟨p.val / 2, by omega⟩)) p.val) (lBits (v2 (ix2 n ⟨p.val / 4, by omega⟩)) p.val) := by
  apply BitVec.eq_of_getLsbD_eq
  intro q hq
  rw [codes_bit v0 v2 p n q hq, weightByte_bit _ _ q hq]
  congr 1
  · congr 1
    exact hBits_bit v0 p n _ (by omega)
  · by_cases h : q < 2
    · rw [lBits_bit v2 p n q h]
    · simp [h]

end Cert.KernelIdeal.Codes
-- ==== Proof.KernelValue.lean ====
/- What the kernel's result array holds (untrusted), at the ideal instance: one output element is a sum over the input
   features of the input times the weight's code value, times 4096, times the output feature's scale (`row`). -/
module

public import proofs.«01_k».proof.Proof.Gen.KernelIdeal.Frame
public import proofs.«01_k».proof.Proof.Codes
public import Idealize.ShloMosaic.Lib.Pipeline.Value
public import Idealize.ShloMosaic.Lib.Pipeline.ValueKit
public import Idealize.ShloMosaic.Lib.ValueIdx
public import Idealize.ShloMosaic.PureOps.Ideal.Laws

@[expose] public section

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx hiding ix1 ix2 ix3
open Cert.KernelIdeal.Codes Cert.Proof.Weight
open Idealize.ShloMosaic.Pipeline (Dat)

/-- One output element, from a row of inputs, a row of each weight array and a scale. -/
def row (X : Fin 8192 → EReal) (H : Fin 4096 → BitVec 8) (L : Fin 2048 → BitVec 8) (S : EReal) : EReal :=
  (∑ k : Fin 8192, X k * byteVal (hBits (H ⟨k.val / 2, by omega⟩) k.val) (lBits (L ⟨k.val / 4, by omega⟩) k.val))
    * Ideal.ofBits .f32 0x45800000#32 * S

theorem lhs0 (i : S64x256.Idx) (q : dot_S64x8192_S8192x256_S64x256_1_0_0_1_n_n.contr.Idx) :
    (dot_S64x8192_S8192x256_S64x256_1_0_0_1_n_n.lhsIdx i q 0).val = (i 0).val := by
  unfold DotDims.lhsIdx
  rw [dif_neg (show ¬(0 : Fin S64x8192.rank) ∈ dot_S64x8192_S8192x256_S64x256_1_0_0_1_n_n.lhsBatch by decide), dif_pos (show (0 : Fin S64x8192.rank) ∈ dot_S64x8192_S8192x256_S64x256_1_0_0_1_n_n.lhsNonContracting by decide)]
  rfl
theorem rhs1 (i : S64x256.Idx) (q : dot_S64x8192_S8192x256_S64x256_1_0_0_1_n_n.contr.Idx) :
    (dot_S64x8192_S8192x256_S64x256_1_0_0_1_n_n.rhsIdx i q 1).val = (i 1).val := by
  unfold DotDims.rhsIdx
  rw [dif_neg (show ¬(1 : Fin S8192x256.rank) ∈ dot_S64x8192_S8192x256_S64x256_1_0_0_1_n_n.rhsBatch by decide), dif_pos (show (1 : Fin S8192x256.rank) ∈ dot_S64x8192_S8192x256_S64x256_1_0_0_1_n_n.rhsNonContracting by decide)]
  rfl

/-- The product with the codes' values, at an element. -/
theorem dot_apply (x : FVec Ideal S64x8192 .bf16) (w : FVec Ideal S8192x256 .bf16) (b : Fin 64) (n : Fin 256) :
    matmul dot_S64x8192_S8192x256_S64x256_1_0_0_1_n_n none x w (constant S64x256 .f32 0x00000000#32) (ix2 b n)
      = ∑ k : Fin 8192, (x (ix2 b k) : EReal) * (w (ix2 k n) : EReal) := by
  refine (Ideal.matmul_constant_zero_apply _ none x w (ix2 b n)).trans ?_
  rw [← Equiv.sum_comp (contrEquiv1 dot_S64x8192_S8192x256_S64x256_1_0_0_1_n_n 8192 rfl rfl).symm]
  refine Finset.sum_congr rfl fun k _ => ?_
  have hk := contrEquiv1_symm_val dot_S64x8192_S8192x256_S64x256_1_0_0_1_n_n 8192 rfl rfl k
  have el : dot_S64x8192_S8192x256_S64x256_1_0_0_1_n_n.lhsIdx (ix2 b n) ((contrEquiv1 dot_S64x8192_S8192x256_S64x256_1_0_0_1_n_n 8192 rfl rfl).symm k) = ix2 b k :=
    funext fun a => Fin.ext (by
      match a with
      | ⟨0, _⟩ => exact lhs0 _ _
      | ⟨1, _⟩ => exact (dot_S64x8192_S8192x256_S64x256_1_0_0_1_n_n.lhsIdx_val_of_single rfl _ _).trans hk)
  have er : dot_S64x8192_S8192x256_S64x256_1_0_0_1_n_n.rhsIdx (ix2 b n) ((contrEquiv1 dot_S64x8192_S8192x256_S64x256_1_0_0_1_n_n 8192 rfl rfl).symm k) = ix2 k n :=
    funext fun a => Fin.ext (by
      match a with
      | ⟨0, _⟩ => exact (dot_S64x8192_S8192x256_S64x256_1_0_0_1_n_n.rhsIdx_val_of_single rfl _ _).trans hk
      | ⟨1, _⟩ => exact rhs1 _ _)
  rw [el, er]

/-- The body's payload at an element. -/
theorem pay_apply (x : Vec Ideal S64x8192 .bf16) (h : Vec Ideal S256x4096 .i8) (l : Vec Ideal S256x2048 .i8) (s : Vec Ideal S1x256 .f32)
    (b : Fin 64) (n : Fin 256) :
    k0_pay1 (F := Ideal) (k0_pay2 (F := Ideal) h) (k0_pay3 (F := Ideal) l) x s (ix2 b n)
      = row (fun k => x (ix2 b k)) (fun k => h (ix2 n k)) (fun k => l (ix2 n k)) (s (ix2 (0 : Fin 1) n)) := by
  rw [pay_eq]
  show matmul dot_S64x8192_S8192x256_S64x256_1_0_0_1_n_n none (shapeCast S64x8192 x shapeCasts_S64x8192_S64x8192 : FVec Ideal S64x8192 .bf16)
        (extf .bf16 (bitcastToFloat .fp8e5m2 (codes h l) : FVec Ideal S8192x256 .fp8e5m2) bitsLt_fp8e5m2_bf16)
        (constant S64x256 .f32 0x00000000#32) (ix2 b n) * Ideal.ofBits .f32 0x45800000#32
      * (broadcastTo S64x256 (shapeCast S1x256 s shapeCasts_S1x256_S1x256) broadcasts_S1x256_S64x256 (ix2 b n) : EReal) = _
  rw [dot_apply, shapeCast_self, shapeCast_self]
  unfold row
  congr 1
  · congr 1
    refine Finset.sum_congr rfl fun k _ => ?_
    show _ * Ideal.ofBits .fp8e5m2 (codes h l (ix2 k n)) = _
    exact congrArg (fun z => x (ix2 b k) * Ideal.ofBits .fp8e5m2 z) (codes_apply h l k n)
  · exact broadcastTo_apply _ _ (ix2 b n) (ix2 (0 : Fin 1) n) (fun a => match a with | ⟨0, _⟩ => rfl | ⟨1, _⟩ => rfl)

variable (m : (ℓ : Loc nD τ sig) → Buf (Elt Ideal) ℓ) (ρ : Dev nD → PrngReg)

/-- The kernel's output array, as a function of the arguments. -/
def G (c : Dev nD) : S64x11264.Idx → EReal := fun i =>
  row (fun k => m ((c.tc : Thread nD τ).loc main_arg0) (ix3 (n0 := 64) (n1 := 1) (n2 := 8192) (i 0) 0 k))
    (fun k => m ((c.tc : Thread nD τ).loc main_arg1) (ix2 (n0 := 11264) (n1 := 4096) (i 1) k))
    (fun k => m ((c.tc : Thread nD τ).loc main_arg2) (ix2 (n0 := 11264) (n1 := 2048) (i 1) k))
    (m ((c.tc : Thread nD τ).loc main_arg3) (ix1 (n0 := 11264) (i 1)))

theorem V_v0 (c : Dev nD) (b : Fin 64) (k : Fin 8192) :
    V m c main_v0 (ix2 b k) = m ((c.tc : Thread nD τ).loc main_arg0) (ix3 b (0 : Fin 1) k) := by
  have e : V m c main_v0 = shapeCast S64x8192 (m ((c.tc : Thread nD τ).loc main_arg0)) shapeCasts_S64x1x8192_S64x8192 := by
    unfold V V0
    simp only [hostOps0, List.flatten_cons, List.flatten_nil, List.append_nil]
    after_results
    rfl
  rw [e]
  exact shapeCast_apply (s := S64x1x8192) (t := S64x8192) _ _ _ _ (by rw [Shape.rowMajor_val_three, Shape.rowMajor_val_two]; show (b.val * 1 + 0) * 8192 + k.val = b.val * 8192 + k.val; omega)

theorem V_v1 (c : Dev nD) (n : Fin 11264) :
    V m c main_v1 (ix2 (0 : Fin 1) n) = m ((c.tc : Thread nD τ).loc main_arg3) (ix1 n) := by
  have e : V m c main_v1 = shapeCast S1x11264 (m ((c.tc : Thread nD τ).loc main_arg3)) shapeCasts_S11264_S1x11264 := by
    unfold V V0
    simp only [hostOps0, List.flatten_cons, List.flatten_nil, List.append_nil]
    after_results
    rfl
  rw [e]
  exact shapeCast_apply (s := S11264) (t := S1x11264) _ _ _ _ (by rw [Shape.rowMajor_val_one, Shape.rowMajor_val_two]; show n.val = 0 * 11264 + n.val; omega)

/-- Which block each window is at. -/
theorem idx : ∀ t : Fin cfg0.N, win0_0.index t = ![0, 0] ∧ win0_1.index t = ![t.val, 0] ∧ win0_2.index t = ![t.val, 0]
    ∧ win0_3.index t = ![0, t.val] ∧ win0_4.index t = ![0, t.val] :=
  (by decide +kernel : ∀ t : Fin grid0.N, win0_0.index t = ![0, 0] ∧ win0_1.index t = ![t.val, 0] ∧ win0_2.index t = ![t.val, 0]
    ∧ win0_3.index t = ![0, t.val] ∧ win0_4.index t = ![0, t.val])

theorem final (c : Dev nD) : (dats m 0 c).arrAt 4 cfg0.N = G m c := by
  refine (dats m 0 c).arrAt_eq_of_covers 4 _ (by decide +kernel) fun t hf y => ?_
  blk_simp
  rw [after0_4]
  frame_out
  obtain ⟨b, n, rfl⟩ : ∃ (b : Fin 64) (n : Fin 256), y = ix2 b n := ⟨y 0, y 1, Idealize.ShloMosaic.eq_ix2 (n0 := 64) (n1 := 256) y⟩
  refine (pay_apply _ _ _ _ b n).trans ?_
  have hb : ((((View.whole main_v2).slice (win0_4.rect t)).emb (ix2 b n)) 0).val = b.val := by
    blk_simp [idx t]
  have hn : ((((View.whole main_v2).slice (win0_4.rect t)).emb (ix2 b n)) 1).val = t.val * 256 + n.val := by
    blk_simp [idx t]
  unfold G
  congr 1
  · funext k
    refine Eq.trans ?_ ((V_v0 m c b k).trans ?_)
    · blk_ext [iblk, idx t]
    · exact congrArg (fun z => m ((c.tc : Thread nD τ).loc main_arg0) (ix3 (n0 := 64) (n1 := 1) (n2 := 8192) z 0 k)) (Fin.ext hb.symm)
  · funext k
    blk_point [iblk, V, idx t]
  · funext k
    blk_point [iblk, V, idx t]
  · refine Eq.trans ?_ ((V_v1 m c (((View.whole main_v2).slice (win0_4.rect t)).emb (ix2 b n) 1)))
    blk_ext [iblk, idx t]

/-- The result array: the output array with a unit axis put in. -/
def out (c : Dev nD) : S64x1x11264.Idx → EReal := fun i => G m c (ix2 (n0 := 64) (n1 := 11264) (i 0) (i 2))

theorem tail_v3 (c : Dev nD) : Pipeline.afterTail₀ cfgs (dats m) 0 (V0 m) [hostOps1] c main_v3 = out m c := by
  have e : Pipeline.afterTail₀ cfgs (dats m) 0 (V0 m) [hostOps1] c main_v3
      = shapeCast S64x1x11264 (G m c) shapeCasts_S64x11264_S64x1x11264 := by
    unfold Pipeline.afterTail₀
    simp only [hostOps1, List.flatten_cons, List.flatten_nil, List.append_nil]
    after_results
    have h4 : Pipeline.withArrays (cfgs 0).spec c (V0 m c) (fun w => (dats m 0 c).arrAt w (cfgs 0).N) (Proc.devRef .tc main_v2) = G m c :=
      (Pipeline.withArrays_arr spec0 launch0.win.arr_inj c (V0 m c) _ 4).trans (final m c)
    rw [h4]
    rfl
  rw [e]
  funext i
  exact shapeCast_apply (s := S64x11264) (t := S64x1x11264) _ _ _ _ (by
    rw [Shape.rowMajor_val_three, Shape.rowMajor_val_two]
    have h1 : (i 1).val < 1 := (i 1).isLt
    show (i 0).val * 11264 + (i 2).val = ((i 0).val * 1 + (i 1).val) * 11264 + (i 2).val
    omega)

/-- The kernel runs, leaves `out` in its result array and its arguments as they were. -/
theorem run : θ_run defs (onTc (τ := τ) (main (F := Ideal))) ⟨m, fun _ => 0, ρ⟩ (fun r => ∀ c : Dev nD,
      r.2.mem ((c.tc : Thread nD τ).loc main_v3) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KernelValue
-- ==== Proof.RefValue.lean ====
/- What the reference computes (untrusted), at the ideal instance: one result element is the sum over the even input
   features plus the sum over the odd ones, of the input times the weight (`Weight.refWeight`), times the scale. The
   bits of a weight are read off the two packed arrays as `Codes.hBits` and `Codes.lBits` read them. -/
module

public import proofs.«01_k».proof.Proof.Gen.ReferenceIdeal.Read
public import proofs.«01_k».proof.Proof.Codes
public import Idealize.ShloMosaic.Lib.Pointwise.Index

@[expose] public section

set_option maxRecDepth 16384

noncomputable section

namespace Cert.ReferenceIdeal.RefValue

open Cert.ReferenceIdeal Cert.ReferenceIdeal.Gen Cert.ReferenceIdeal.Read Idealize.ShloMosaic Idealize.SL.Sem
open Cert.KernelIdeal.Codes Cert.Proof.Weight

theorem even_weight (x1 : (⟨S11264x4096, .i8⟩ : BufTy).Contents (Elt Ideal)) (x2 : (⟨S11264x2048, .i8⟩ : BufTy).Contents (Elt Ideal))
    (i : S11264x4096.Idx) : val_main_v37 (F := Ideal) x1 x2 i = refWeight (val_main_v10 (F := Ideal) x1 i) (val_main_v14 (F := Ideal) x2 i) := by
  unfold refWeight refMag
  simp only [val_main_v37_apply, val_main_v36_apply, val_main_v35_apply, val_main_v34_apply, val_main_v33_apply, val_main_v32_apply,
    val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_v19_apply, val_main_v18_apply,
    val_main_v17_apply, val_main_v16_apply, val_main_v15_apply, val_main_c_3_apply, val_main_c_4_apply, val_main_c_5_apply, val_main_c_6_apply,
    val_main_c_7_apply, val_main_c_8_apply, val_main_c_9_apply, val_main_cst_apply]

theorem odd_weight (x1 : (⟨S11264x4096, .i8⟩ : BufTy).Contents (Elt Ideal)) (x2 : (⟨S11264x2048, .i8⟩ : BufTy).Contents (Elt Ideal))
    (i : S11264x4096.Idx) : val_main_v68 (F := Ideal) x1 x2 i = refWeight (val_main_v39 (F := Ideal) x1 i) (val_main_v45 (F := Ideal) x2 i) := by
  unfold refWeight refMag
  simp only [val_main_v68_apply, val_main_v67_apply, val_main_v66_apply, val_main_v65_apply, val_main_v64_apply, val_main_v63_apply,
    val_main_v62_apply, val_main_v61_apply, val_main_v60_apply, val_main_v59_apply, val_main_v58_apply, val_main_v57_apply, val_main_v56_apply,
    val_main_v55_apply, val_main_v54_apply, val_main_v53_apply, val_main_v52_apply, val_main_v51_apply, val_main_v50_apply, val_main_v49_apply,
    val_main_v48_apply, val_main_v47_apply, val_main_v46_apply, val_main_c_13_apply, val_main_c_14_apply, val_main_c_15_apply, val_main_c_16_apply,
    val_main_c_17_apply, val_main_c_19_apply, val_main_c_20_apply, val_main_cst_18_apply]

/-! ## The bits of a weight, as 32-bit words -/

theorem low_half (b : BitVec 8) : IntOp.andi (b.setWidth 32) 15#32 = (b.extractLsb' 0 4).setWidth 32 := by
  revert b; decide +kernel
theorem high_half (b : BitVec 8) : IntOp.shrsi .host (b.setWidth 32) 4#32 = (b.extractLsb' 4 4).setWidth 32 := by
  revert b; decide +kernel
theorem pair0 (b : BitVec 8) : IntOp.andi (IntOp.shrsi .host (b.setWidth 32) 0#32) 3#32 = (b.extractLsb' 0 2).setWidth 32 := by
  revert b; decide +kernel
theorem pair1 (b : BitVec 8) : IntOp.andi (IntOp.shrsi .host (b.setWidth 32) 2#32) 3#32 = (b.extractLsb' 2 2).setWidth 32 := by
  revert b; decide +kernel
theorem pair2 (b : BitVec 8) : IntOp.andi (IntOp.shrsi .host (b.setWidth 32) 4#32) 3#32 = (b.extractLsb' 4 2).setWidth 32 := by
  revert b; decide +kernel
theorem pair3 (b : BitVec 8) : IntOp.andi (IntOp.shrsi .host (b.setWidth 32) 6#32) 3#32 = (b.extractLsb' 6 2).setWidth 32 := by
  revert b; decide +kernel

theorem shift (k : Nat) : IntOp.muli 4#32 (IntOp.andi (BitVec.ofNat 32 k) 1#32) = BitVec.ofNat 32 (4 * (k % 2)) := by
  have e : IntOp.andi (BitVec.ofNat 32 k) 1#32 = BitVec.ofNat 32 (k % 2) := by
    apply BitVec.eq_of_toNat_eq
    show ((BitVec.ofNat 32 k) &&& 1#32).toNat = _
    rw [BitVec.toNat_and, BitVec.toNat_ofNat, BitVec.toNat_ofNat, BitVec.toNat_ofNat]
    have := Nat.and_one_is_mod (k % 2 ^ 32)
    norm_num at this ⊢
    omega
  rw [e]
  rcases Nat.mod_two_eq_zero_or_one k with h | h <;> rw [h] <;> rfl

variable (x0 : (⟨S64x1x8192, .bf16⟩ : BufTy).Contents (Elt Ideal)) (x1 : (⟨S11264x4096, .i8⟩ : BufTy).Contents (Elt Ideal))
  (x2 : (⟨S11264x2048, .i8⟩ : BufTy).Contents (Elt Ideal)) (x3 : (⟨S11264, .f32⟩ : BufTy).Contents (Elt Ideal))

theorem v3_eq (n : Fin 11264) (k : Fin 4096) :
    val_main_v3 (F := Ideal) x2 (ix2 n k) = (x2 (ix2 n (⟨k.val / 2, by omega⟩ : Fin 2048))).setWidth 32 := by
  rw [val_main_v3_apply, val_main_v2_apply, val_main_v1_apply]
  refine congrArg (fun z => (x2 z).setWidth 32) (funext fun a => Fin.ext ?_)
  match a with
  | ⟨0, _⟩ => show (n.val * 4096 + k.val) / 4096 = n.val; omega
  | ⟨1, _⟩ => show (n.val * 4096 + k.val) / 2 % 2048 = k.val / 2; omega

theorem even_h (n : Fin 11264) (k : Fin 4096) :
    val_main_v10 (F := Ideal) x1 (ix2 n k) = (hBits (x1 (ix2 n k)) (2 * k.val)).setWidth 32 := by
  rw [val_main_v10_apply, val_main_v0_apply, val_main_v9_apply, val_main_c_1_apply, low_half]
  unfold hBits
  rw [show 4 * (2 * k.val % 2) = 0 by omega]

theorem odd_h (n : Fin 11264) (k : Fin 4096) :
    val_main_v39 (F := Ideal) x1 (ix2 n k) = (hBits (x1 (ix2 n k)) (2 * k.val + 1)).setWidth 32 := by
  rw [val_main_v39_apply, val_main_v0_apply, val_main_v38_apply, val_main_c_10_apply, high_half]
  unfold hBits
  rw [show 4 * ((2 * k.val + 1) % 2) = 4 by omega]

theorem v8_eq (i : S1x4096.Idx) : val_main_v8 (F := Ideal) i = BitVec.ofNat 32 (4 * ((i 1).val % 2)) := by
  rw [val_main_v8_apply, val_main_v7_apply, val_main_c_0_apply, val_main_v6_apply, val_main_v5_apply, val_main_c_apply, val_main_v4_apply, shift]

theorem even_l (n : Fin 11264) (k : Fin 4096) :
    val_main_v14 (F := Ideal) x2 (ix2 n k) = (lBits (x2 (ix2 n (⟨k.val / 2, by omega⟩ : Fin 2048))) (2 * k.val)).setWidth 32 := by
  rw [val_main_v14_apply, val_main_v12_apply, v3_eq, val_main_v13_apply, val_main_c_2_apply, val_main_v11_apply, v8_eq]
  unfold lBits
  show IntOp.andi (IntOp.shrsi .host _ (BitVec.ofNat 32 (4 * (k.val % 2)))) 3#32 = _
  rcases Nat.mod_two_eq_zero_or_one k.val with h | h <;> rw [h]
  · rw [show 2 * (2 * k.val % 4) = 0 by omega]; exact pair0 _
  · rw [show 2 * (2 * k.val % 4) = 4 by omega]; exact pair2 _

theorem odd_l (n : Fin 11264) (k : Fin 4096) :
    val_main_v45 (F := Ideal) x2 (ix2 n k) = (lBits (x2 (ix2 n (⟨k.val / 2, by omega⟩ : Fin 2048))) (2 * k.val + 1)).setWidth 32 := by
  rw [val_main_v45_apply, val_main_v43_apply, v3_eq, val_main_v44_apply, val_main_c_12_apply, val_main_v42_apply, val_main_v41_apply,
    val_main_v40_apply, val_main_c_11_apply, v8_eq]
  unfold lBits
  show IntOp.andi (IntOp.shrsi .host _ (IntOp.addi (BitVec.ofNat 32 (4 * (k.val % 2))) 2#32)) 3#32 = _
  rcases Nat.mod_two_eq_zero_or_one k.val with h | h <;> rw [h]
  · rw [show 2 * ((2 * k.val + 1) % 4) = 2 by omega]; exact pair1 _
  · rw [show 2 * ((2 * k.val + 1) % 4) = 6 by omega]; exact pair3 _

/-! ## The inputs, every second one -/

theorem v69_eq (b : Fin 64) (k : Fin 4096) :
    val_main_v69 (F := Ideal) x0 (ix3 b (0 : Fin 1) k) = x0 (ix3 b (0 : Fin 1) (⟨2 * k.val, by omega⟩ : Fin 8192)) := by
  unfold val_main_v69 Host.slice
  refine congrArg x0 (funext fun a => Fin.ext ?_)
  match a with
  | ⟨0, _⟩ => show 0 + 1 * b.val = b.val; omega
  | ⟨1, _⟩ => rfl
  | ⟨2, _⟩ => show 0 + 2 * k.val = 2 * k.val; omega

theorem v71_eq (b : Fin 64) (k : Fin 4096) :
    val_main_v71 (F := Ideal) x0 (ix3 b (0 : Fin 1) k) = x0 (ix3 b (0 : Fin 1) (⟨2 * k.val + 1, by omega⟩ : Fin 8192)) := by
  unfold val_main_v71 Host.slice
  refine congrArg x0 (funext fun a => Fin.ext ?_)
  match a with
  | ⟨0, _⟩ => show 0 + 1 * b.val = b.val; omega
  | ⟨1, _⟩ => rfl
  | ⟨2, _⟩ => show 1 + 2 * k.val = 2 * k.val + 1; omega

/-- The weight of input feature `p`, from a row of each packed array. -/
def weight (H : Fin 4096 → BitVec 8) (L : Fin 2048 → BitVec 8) (p : Fin 8192) : EReal :=
  refWeight ((hBits (H ⟨p.val / 2, by omega⟩) p.val).setWidth 32) ((lBits (L ⟨p.val / 4, by omega⟩) p.val).setWidth 32)

/-- One result element, from a row of inputs, a row of each packed array and a scale. -/
def row (X : Fin 8192 → EReal) (H : Fin 4096 → BitVec 8) (L : Fin 2048 → BitVec 8) (S : EReal) : EReal :=
  ((∑ k : Fin 4096, X ⟨2 * k.val, by omega⟩ * weight H L ⟨2 * k.val, by omega⟩)
    + ∑ k : Fin 4096, X ⟨2 * k.val + 1, by omega⟩ * weight H L ⟨2 * k.val + 1, by omega⟩) * S

theorem result (b : Fin 64) (n : Fin 11264) : val_main_v77 (F := Ideal) x0 x1 x2 x3 (ix3 b (0 : Fin 1) n)
    = row (fun k => x0 (ix3 b (0 : Fin 1) k)) (fun k => x1 (ix2 n k)) (fun k => x2 (ix2 n k)) (x3 (ix1 n)) := by
  have es : val_main_v75 (F := Ideal) x3 (ix3 b (0 : Fin 1) n) = x3 (ix1 n) := by
    rw [val_main_v75_apply, val_main_v74_apply]
    exact congrArg x3 (funext fun a => match a with | ⟨0, _⟩ => rfl)
  have e0 : val_main_v70 (F := Ideal) x0 x1 x2 (ix3 b (0 : Fin 1) n)
      = ∑ k : Fin 4096, (x0 (ix3 b (0 : Fin 1) (⟨2 * k.val, by omega⟩ : Fin 8192)) : EReal)
          * weight (fun k => x1 (ix2 n k)) (fun k => x2 (ix2 n k)) ⟨2 * k.val, by omega⟩ := by
    rw [val_main_v70_apply]
    refine Finset.sum_congr rfl fun k _ => ?_
    rw [show lidx_main_v70 (ix3 b (0 : Fin 1) n) k = ix3 b (0 : Fin 1) k from funext fun a => match a with | ⟨0, _⟩ => rfl | ⟨1, _⟩ => rfl | ⟨2, _⟩ => rfl,
      show ridx_main_v70 (ix3 b (0 : Fin 1) n) k = ix2 n k from funext fun a => match a with | ⟨0, _⟩ => rfl | ⟨1, _⟩ => rfl,
      v69_eq, even_weight, even_h, even_l]
    unfold weight
    simp only [show 2 * k.val / 2 = k.val by omega, show 2 * k.val / 4 = k.val / 2 by omega]
  have e1 : val_main_v72 (F := Ideal) x0 x1 x2 (ix3 b (0 : Fin 1) n)
      = ∑ k : Fin 4096, (x0 (ix3 b (0 : Fin 1) (⟨2 * k.val + 1, by omega⟩ : Fin 8192)) : EReal)
          * weight (fun k => x1 (ix2 n k)) (fun k => x2 (ix2 n k)) ⟨2 * k.val + 1, by omega⟩ := by
    rw [val_main_v72_apply]
    refine Finset.sum_congr rfl fun k _ => ?_
    rw [show lidx_main_v72 (ix3 b (0 : Fin 1) n) k = ix3 b (0 : Fin 1) k from funext fun a => match a with | ⟨0, _⟩ => rfl | ⟨1, _⟩ => rfl | ⟨2, _⟩ => rfl,
      show ridx_main_v72 (ix3 b (0 : Fin 1) n) k = ix2 n k from funext fun a => match a with | ⟨0, _⟩ => rfl | ⟨1, _⟩ => rfl,
      v71_eq, odd_weight, odd_h, odd_l]
    unfold weight
    simp only [show (2 * k.val + 1) / 2 = k.val by omega, show (2 * k.val + 1) / 4 = k.val / 2 by omega]
  show (val_main_v70 (F := Ideal) x0 x1 x2 (ix3 b (0 : Fin 1) n) + val_main_v72 (F := Ideal) x0 x1 x2 (ix3 b (0 : Fin 1) n) : EReal)
      * val_main_v75 (F := Ideal) x3 (ix3 b (0 : Fin 1) n) = _
  rw [e0, e1, es]
  rfl

end Cert.ReferenceIdeal.RefValue
-- ==== Proof.Sum.lean ====
/- The two programs' sums are one (untrusted): a sum over 8192 terms is its even half plus its odd half, and a factor of
   4096 taken out of the sum by the kernel is inside every term of the reference. Multiplication by a nonnegative finite
   number distributes over sums of extended reals, so no finiteness of the inputs is needed. -/
module

public import proofs.«01_k».proof.Proof.KernelValue
public import proofs.«01_k».proof.Proof.RefValue

@[expose] public section

noncomputable section

namespace Cert.Proof.Sum

open Idealize.ShloMosaic Cert.Proof.Weight Cert.KernelIdeal.Codes

theorem sum_mul (c : ℝ) (hc : 0 ≤ c) {n : Nat} (f : Fin n → EReal) : (∑ k, f k) * (c : EReal) = ∑ k, f k * (c : EReal) := by
  have h : ∀ s : Finset (Fin n), (∑ k ∈ s, f k) * (c : EReal) = ∑ k ∈ s, f k * (c : EReal) := fun s => by
    classical
    induction s using Finset.induction_on with
    | empty => simp
    | insert a s ha ih =>
      rw [Finset.sum_insert ha, Finset.sum_insert ha, ← ih]
      exact EReal.right_distrib_of_nonneg_of_ne_top (EReal.coe_nonneg.mpr hc) (EReal.coe_ne_top c) _ _
  exact h Finset.univ

theorem sum_halves (f : Fin 8192 → EReal) :
    ∑ k, f k = (∑ k : Fin 4096, f ⟨2 * k.val, by omega⟩) + ∑ k : Fin 4096, f ⟨2 * k.val + 1, by omega⟩ := by
  rw [← Equiv.sum_comp (finProdFinEquiv (m := 4096) (n := 2)) f, Fintype.sum_prod_type, ← Finset.sum_add_distrib]
  refine Finset.sum_congr rfl fun k _ => ?_
  rw [Fin.sum_univ_two]
  congr 2
  · exact Fin.ext (by show 0 + 2 * k.val = 2 * k.val; omega)
  · exact Fin.ext (by show 1 + 2 * k.val = 2 * k.val + 1; omega)

theorem f4096 : Ideal.ofBits .f32 0x45800000#32 = ((4096 : ℝ) : EReal) := by
  simp [Ideal.ofBits, Ideal.ieee, -EReal.coe_mul]
  norm_num

theorem row_eq (X : Fin 8192 → EReal) (H : Fin 4096 → BitVec 8) (L : Fin 2048 → BitVec 8) (S : EReal) :
    Cert.ReferenceIdeal.RefValue.row X H L S = Cert.KernelIdeal.KernelValue.row X H L S := by
  unfold Cert.ReferenceIdeal.RefValue.row Cert.KernelIdeal.KernelValue.row
  rw [f4096, sum_mul 4096 (by norm_num), ← sum_halves fun k => X k * Cert.ReferenceIdeal.RefValue.weight H L k]
  refine congrArg (· * S) (Finset.sum_congr rfl fun k _ => ?_)
  rw [mul_assoc, byteVal_mul]
  rfl

end Cert.Proof.Sum
-- ==== Proof.lean ====
module

public import proofs.«01_k».proof.Proof.Sum
public import Idealize.ShloMosaic.Lib.Quiescent
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference has no semaphores, so their counters end at zero. -/
theorem quiescent_reference : Cert.quiescent_ReferenceIdeal (hReferenceIdeal := Cert.ReferenceIdeal.Gen.facts) := fun m ρ _ =>
  (θ_run Cert.ReferenceIdeal.defs _ _).mono
    (fun r h => ⟨fun c => ⟨(h c).2.1, (h c).2.2.1, (h c).2.2.2.1, (h c).2.2.2.2⟩, Idealize.ShloMosaic.sem_eq_zero_of_no_sems (by decide) r.2⟩)
    (Cert.ReferenceIdeal.Value.run (F := Ideal) m ρ)

/-- The kernel and the reference give one result. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨Cert.KernelIdeal.KernelValue.out m, Cert.KernelIdeal.KernelValue.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v77_eq, (hagree c).1, (hagree c).2.1, (hagree c).2.2.1, (hagree c).2.2.2]
  funext i
  obtain ⟨b, n, rfl⟩ : ∃ (b : Fin 64) (n : Fin 11264), i = ix3 b (0 : Fin 1) n :=
    ⟨i 0, i 2, (eq_ix3 (n0 := 64) (n1 := 1) (n2 := 11264) i).trans
      (congrArg (fun z : Fin 1 => ix3 (n0 := 64) (n2 := 11264) (i 0) z (i 2)) (Subsingleton.elim (α := Fin 1) (i 1) 0))⟩
  rw [Cert.ReferenceIdeal.RefValue.result, Cert.Proof.Sum.row_eq]
  rfl

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
